-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x8192 : Shape := ⟨2, ![2048, 8192]⟩
abbrev S8192 : Shape := ⟨1, ![8192]⟩
abbrev S16384x2048 : Shape := ⟨2, ![16384, 2048]⟩
abbrev S1x8192 : Shape := ⟨2, ![1, 8192]⟩
abbrev S16384x8192 : Shape := ⟨2, ![16384, 8192]⟩
abbrev S1024x2048 : Shape := ⟨2, ![1024, 2048]⟩
abbrev S2048x2048 : Shape := ⟨2, ![2048, 2048]⟩
abbrev S1x2048 : Shape := ⟨2, ![1, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .i8⟩
  | .hbm, ⟨2, _⟩ => ⟨S8192, .f32⟩
  | .hbm, ⟨3, _⟩ => ⟨S8192, .f32⟩
  | .hbm, ⟨4, _⟩ => ⟨S16384x2048, .f32⟩
  | .hbm, ⟨5, _⟩ => ⟨S1x8192, .f32⟩
  | .hbm, ⟨6, _⟩ => ⟨S1x8192, .f32⟩
  | .hbm, ⟨7, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .i8⟩
  | .local _ .vmem, ⟨3, _⟩ => ⟨S2048x2048, .i8⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x2048 : Shape := ⟨3, ![4, 4096, 2048]⟩
abbrev S2048x8192 : Shape := ⟨2, ![2048, 8192]⟩
abbrev S8192 : Shape := ⟨1, ![8192]⟩
abbrev S1x8192 : Shape := ⟨2, ![1, 8192]⟩
abbrev S4x4096x8192 : Shape := ⟨3, ![4, 4096, 8192]⟩
abbrev S1x1x8192 : Shape := ⟨3, ![1, 1, 8192]⟩
abbrev S16384x8192 : Shape := ⟨2, ![16384, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .i8⟩
  | .hbm, ⟨2, _⟩ => ⟨S8192, .f32⟩
  | .hbm, ⟨3, _⟩ => ⟨S8192, .f32⟩
  | .hbm, ⟨4, _⟩ => ⟨S2048x8192, .i32⟩
  | .hbm, ⟨5, _⟩ => ⟨S2048x8192, .f32⟩
  | .hbm, ⟨6, _⟩ => ⟨S2048x8192, .bf16⟩
  | .hbm, ⟨7, _⟩ => ⟨S8192, .bf16⟩
  | .hbm, ⟨8, _⟩ => ⟨S1x8192, .bf16⟩
  | .hbm, ⟨9, _⟩ => ⟨S2048x8192, .bf16⟩
  | .hbm, ⟨10, _⟩ => ⟨S2048x8192, .bf16⟩
  | .hbm, ⟨11, _⟩ => ⟨S4x4096x2048, .bf16⟩
  | .hbm, ⟨12, _⟩ => ⟨S4x4096x8192, .f32⟩
  | .hbm, ⟨13, _⟩ => ⟨S1x1x8192, .f32⟩
  | .hbm, ⟨14, _⟩ => ⟨S4x4096x8192, .f32⟩
  | .hbm, ⟨15, _⟩ => ⟨S4x4096x8192, .f32⟩
  | .hbm, ⟨16, _⟩ => ⟨S16384x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Spec.lean ====
/-
  The linear layer as a formula over the arguments, with floats read as extended reals.

  `entry` is one output element from the row and column it uses. `linear` is the whole result: row `i` of the result is
  row `(i / 4096, i % 4096)` of the activations, multiplied into the scaled codes, plus the bias.
-/
module

public import Idealize.ShloMosaic.PureOps.Ideal.Laws
public import Idealize.ShloMosaic.Lib.ValueIdxCore

@[expose] public section

noncomputable section

namespace Cert.Spec

open Idealize.ShloMosaic Idealize.ShloMosaic.ValueIdx
open scoped BigOperators

/-- An integer code as an extended real, exactly. -/
abbrev code (b : BitVec 8) : EReal := ((b.toInt : ℝ) : EReal)

/-- One output element: the row of activations against the column of scaled codes, plus the column's bias. -/
def entry (x : Fin 2048 → EReal) (w : Fin 2048 → BitVec 8) (s b : EReal) : EReal :=
  (∑ k : Fin 2048, x k * (code (w k) * s)) + b

/-- The batch a row of the result belongs to. -/
abbrev batchOf (r : Fin 16384) : Fin 4 := ⟨r.val / 4096, by omega⟩

/-- A row of the result, as a position inside its batch. -/
abbrev seqOf (r : Fin 16384) : Fin 4096 := ⟨r.val % 4096, by omega⟩

/-- The whole result over the arguments: activations `x`, integer codes `w`, one scale `s` and one bias `b` a column. -/
def linear (x : (⟨3, ![4, 4096, 2048]⟩ : Shape).Idx → EReal) (w : (⟨2, ![2048, 8192]⟩ : Shape).Idx → BitVec 8)
    (s b : (⟨1, ![8192]⟩ : Shape).Idx → EReal) : (⟨2, ![16384, 8192]⟩ : Shape).Idx → EReal := fun i =>
  entry (fun k => x (ix3 (batchOf (i 0)) (seqOf (i 0)) k)) (fun k => w (ix2 k (i 1))) (s (ix1 (i 1))) (b (ix1 (i 1)))

end Cert.Spec

end
-- ==== Proof.Block.lean ====
/-
  What one column chunk and one block of the kernel compute, at the exact instance (floats are extended reals).

  A grid point holds a [1024, 2048] block of activations, a [2048, 2048] block of integer codes and the matching
  [1, 2048] rows of scales and biases. It writes its [1024, 2048] block of the result in four chunks of 512 columns.
  `chunk_apply` reads one chunk at an index. `blockFn` is the whole block as one function. `out_A`, `out_B` and
  `scratch_A` say that the block the body leaves is `blockFn`, whether the point refills the scratch or reuses it.
-/
module

public import proofs.«01_k».proof.Defs
public import proofs.«01_k».proof.Proof.Spec
public import proofs.«01_k».proof.Proof.Gen.KernelIdeal.Frame
public import Idealize.ShloMosaic.Lib.Pipeline.Value
public import Idealize.ShloMosaic.Lib.ValueLayout
public import Idealize.ShloMosaic.Lib.MatmulPlain
public import Idealize.ShloMosaic.Lib.Pipeline.ValueKit.Tiles
public import Idealize.ShloMosaic.Lib.Writes
public import Idealize.ShloMosaic.Lib.Tactic

@[expose] public section

noncomputable section

namespace Cert.KernelIdeal.Block

open Idealize.ShloMosaic Idealize.ShloMosaic.TcCoe Idealize.ShloMosaic.ValueIdx Idealize.SL.Sem
open Cert.KernelIdeal Cert.KernelIdeal.Gen Cert.Spec
open scoped BigOperators

/-- A block of the result: every row of the activations against every scaled column, plus the column's bias. -/
def blockFn (x : Vec Ideal S1024x2048 .bf16) (w : Vec Ideal S2048x2048 .i8) (s b : Vec Ideal S1x2048 .f32) :
    Vec Ideal S1024x2048 .f32 := fun y =>
  entry (fun k => x (ix2 (y 0) k)) (fun k => w (ix2 k (y 1))) (s (ix2 (0 : Fin 1) (y 1))) (b (ix2 (0 : Fin 1) (y 1)))

/-- One chunk's payload read at an index: the sum over the 2048 contracted positions, plus the bias. -/
theorem chunk_apply (w : Vec Ideal S2048x512 .i8) (s : Vec Ideal S1x512 .f32) (x : Vec Ideal S1024x2048 .bf16)
    (b : Vec Ideal S1x512 .f32) (r : Fin 1024) (q : Fin 512) :
    k0_pay1 w s x b (ix2 r q)
      = entry (fun k => x (ix2 r k)) (fun k => w (ix2 k q)) (s (ix2 (0 : Fin 1) q)) (b (ix2 (0 : Fin 1) q)) := by
  unfold k0_pay1 entry
  simp only [shapeCast_self]
  refine (congrArg₂ (· + ·) (Ideal.matmul_plain_apply none x _ _ r q) (broadcastTo_1b_ab_apply b _ r q)).trans ?_
  refine congrArg (· + _) ?_
  refine Eq.trans (congrArg (· + _) Ideal.ofBits_zero_f32) ?_
  rw [zero_add]
  refine Finset.sum_congr rfl fun k _ => congrArg (x (ix2 r k) * ·) ?_
  exact congrArg (code (w (ix2 k q)) * ·)
    ((broadcastTo_1b_ab_apply (a := 2048) (b := 512) (truncf (F := Ideal) .bf16 s bitsLt_bf16_f32)
      broadcasts_S1x512_S2048x512 k q).trans rfl)

/-- The four chunks have one payload: the program repeats it at four column offsets. -/
theorem pay2_eq : (k0_pay2 (F := Ideal)) = k0_pay1 := rfl
theorem pay4_eq : (k0_pay4 (F := Ideal)) = k0_pay1 := rfl
theorem pay5_eq : (k0_pay5 (F := Ideal)) = k0_pay1 := rfl

/-- The activations' cast is the identity on extended reals. -/
theorem pay3_eq (x : Vec Ideal S1024x2048 .f32) : (k0_pay3 (F := Ideal) x) = x := by
  unfold k0_pay3
  simp only [shapeCast_self]
  rfl

theorem hz : (![0, 0] : Fin 2 → Nat) = fun _ => 0 := funext fun a => by fin_cases a <;> rfl

/-- A chunk at column offset `o`, its operands loaded from the blocks, is `blockFn` at the chunk's place. -/
theorem chunk_at (o : ℕ) (ho : o + 512 ≤ 2048) (x : Vec Ideal S1024x2048 .bf16) (w : Vec Ideal S2048x2048 .i8)
    (s b : Vec Ideal S1x2048 .f32)
    (iw : ∀ a, (![0, o] : Fin 2 → Nat) a + S2048x512.size a ≤ S2048x2048.size a)
    (is : ∀ a, (![0, o] : Fin 2 → Nat) a + S1x512.size a ≤ S1x2048.size a)
    (io : ∀ a, (![0, o] : Fin 2 → Nat) a + S1024x512.size a ≤ S1024x2048.size a)
    (j : S1024x512.Idx) :
    k0_pay1 (View.ld w (Rect.unit (s := S2048x2048) ![0, o] S2048x512.size iw))
        (View.ld s (Rect.unit (s := S1x2048) ![0, o] S1x512.size is)) x
        (View.ld b (Rect.unit (s := S1x2048) ![0, o] S1x512.size is)) j
      = blockFn x w s b ((Rect.unit (s := S1024x2048) ![0, o] S1024x512.size io).emb j) := by
  rw [eq_ix2 j]
  refine (chunk_apply _ _ _ _ (j 0) (j 1)).trans ?_
  have h0 : ((Rect.unit (s := S1024x2048) ![0, o] S1024x512.size io).emb (ix2 (j 0) (j 1))) 0 = j 0 :=
    Fin.ext ((Rect.idx_unit_val (s := S1024x2048) ![0, o] S1024x512.size io (ix2 (j 0) (j 1)) 0).trans (Nat.zero_add _))
  have h1 : (((Rect.unit (s := S1024x2048) ![0, o] S1024x512.size io).emb (ix2 (j 0) (j 1))) 1).val = o + (j 1).val :=
    Rect.idx_unit_val (s := S1024x2048) ![0, o] S1024x512.size io (ix2 (j 0) (j 1)) 1
  unfold blockFn
  congr 1
  · funext k; exact congrArg (fun r : Fin 1024 => x (ix2 r k)) h0.symm
  · funext k
    refine View.ld_unit_apply_of w ![0, o] S2048x512.size iw _ _ fun a => ?_
    match a with
    | ⟨0, _⟩ => exact (Nat.zero_add _).symm
    | ⟨1, _⟩ => exact h1
  · refine View.ld_unit_apply_of s ![0, o] S1x512.size is _ _ fun a => ?_
    match a with
    | ⟨0, _⟩ => exact (Nat.zero_add _).symm
    | ⟨1, _⟩ => exact h1
  · refine View.ld_unit_apply_of b ![0, o] S1x512.size is _ _ fun a => ?_
    match a with
    | ⟨0, _⟩ => exact (Nat.zero_add _).symm
    | ⟨1, _⟩ => exact h1

section Points

variable (c : Dev nD) (i : grid0.Coords) (arg2 : Memref sig .tc .vmem S1024x2048 .f32) (harg2 : arg2.IsWhole)
  (arg3 : Memref sig .tc .vmem S2048x2048 .i8) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S1024x2048 .f32) (harg6 : arg6.IsWhole) (arg7 : Memref sig .tc .vmem S1024x2048 .bf16)
  (harg7 : arg7.IsWhole) (x : Vec Ideal S1024x2048 .f32) (w : Vec Ideal S2048x2048 .i8) (s b : Vec Ideal S1x2048 .f32)

/-- A point that reuses the scratch leaves the block computed from the activations held there. -/
theorem out_B (hc : ¬cond0_0 i) (xs : Vec Ideal S1024x2048 .bf16) :
    out0_B_4 c i arg2 harg2 arg3 harg3 arg4 harg4 arg5 harg5 arg6 harg6 arg7 harg7 hc x w s b xs = blockFn xs w s b := by
  funext y
  unfold out0_B_4
  refine View.read_writes_apply_of_pieces _ _ (blockFn xs w s b) _ ?_ y
    (cover0_B_4 c i arg2 harg2 arg3 harg3 arg4 harg4 arg5 harg5 arg6 harg6 arg7 harg7 hc x w s b xs y)
  unfold kernelRun0_B
  dsimp only
  sl_unfold_words
  simp only [pay2_eq, pay4_eq, pay5_eq, View.readAt_eq_ld, harg2.read_unread, harg3.read_unread, harg4.read_unread,
    harg5.read_unread, harg7.read_unread, View.ld_unit_zero (S := S1024x2048) hz]
  intro p hp j
  simp only [List.mem_cons, List.not_mem_nil, or_false] at hp
  rcases hp with rfl | rfl | rfl | rfl
  · exact chunk_at 1536 (by decide) xs w s b _ _ inb_S1024x2048_S1024x512_0_1536 j
  · exact chunk_at 1024 (by decide) xs w s b _ _ inb_S1024x2048_S1024x512_0_1024 j
  · exact chunk_at 512 (by decide) xs w s b _ _ inb_S1024x2048_S1024x512_0_512 j
  · exact chunk_at 0 (by decide) xs w s b _ _ inb_S1024x2048_S1024x512_0_0 j

/-- A point that refills the scratch leaves the block computed from its own activations. -/
theorem out_A (hc : cond0_0 i) :
    out0_A_4 c i arg2 harg2 arg3 harg3 arg4 harg4 arg5 harg5 arg6 harg6 arg7 harg7 hc x w s b = blockFn x w s b := by
  funext y
  unfold out0_A_4
  refine View.read_writes_apply_of_pieces _ _ (blockFn x w s b) _ ?_ y
    (cover0_A_4 c i arg2 harg2 arg3 harg3 arg4 harg4 arg5 harg5 arg6 harg6 arg7 harg7 hc x w s b y)
  unfold kernelRun0_A
  dsimp only
  sl_unfold_words
  simp only [pay2_eq, pay4_eq, pay5_eq, pay3_eq, View.readAt_eq_ld, harg2.read_unread, harg3.read_unread,
    harg4.read_unread, harg5.read_unread, View.readCov_unit_zero (S := S1024x2048) _ hz,
    View.ld_unit_zero (S := S1024x2048) hz]
  intro p hp j
  simp only [List.mem_cons, List.not_mem_nil, or_false] at hp
  rcases hp with rfl | rfl | rfl | rfl
  · exact chunk_at 1536 (by decide) x w s b _ _ inb_S1024x2048_S1024x512_0_1536 j
  · exact chunk_at 1024 (by decide) x w s b _ _ inb_S1024x2048_S1024x512_0_1024 j
  · exact chunk_at 512 (by decide) x w s b _ _ inb_S1024x2048_S1024x512_0_512 j
  · exact chunk_at 0 (by decide) x w s b _ _ inb_S1024x2048_S1024x512_0_0 j

/-- A point that refills the scratch leaves its own activations there. -/
theorem scratch_A (hc : cond0_0 i) :
    sout0_A_0 c i arg2 harg2 arg3 harg3 arg4 harg4 arg5 harg5 arg6 harg6 arg7 harg7 hc x w s b = x := by
  unfold sout0_A_0
  rw [View.read_writes_eq_canon _ _ _
    (scover0_A_0 c i arg2 harg2 arg3 harg3 arg4 harg4 arg5 harg5 arg6 harg6 arg7 harg7 hc x w s b)]
  unfold kernelRun0_A
  dsimp only
  sl_unfold_words
  rw [View.canon_unit_zero hz]
  simp only [pay3_eq, View.readAt_eq_ld, harg2.read_unread, View.ld_unit_zero (S := S1024x2048) hz]

end Points

end Cert.KernelIdeal.Block

end
-- ==== Proof.Array.lean ====
/-
  What the kernel's result array holds after the run, at the exact instance.

  The grid has 16 row blocks and 4 column blocks, walked row block by row block. Point `t` works on row block `t / 4`
  and column block `t % 4`. The scratch is refilled at the first column block of a row block and holds that row block's
  activations until the next refill, so every point computes from its own activations (`outs_eq`). The result's array is
  therefore `linear` of the four arguments (`array_eq`).
-/
module

public import proofs.«01_k».proof.Proof.Block
public import proofs.«01_k».proof.Proof.Gen.KernelIdeal.Value
public import Idealize.ShloMosaic.Lib.StableHlo.Run

@[expose] public section

noncomputable section

namespace Cert.KernelIdeal.Array

open Idealize.ShloMosaic Idealize.ShloMosaic.TcCoe Idealize.ShloMosaic.ValueIdx Idealize.SL.Sem
open Cert.KernelIdeal Cert.KernelIdeal.Gen Cert.KernelIdeal.Value Cert.KernelIdeal.Block Cert.Spec
open scoped BigOperators

variable (m : (ℓ : Loc nD τ sig) → Buf (Elt Ideal) ℓ)

/-! ## The blocks a point reads -/

/-- The blocks each window is on at each of the 64 points. -/
theorem idx_in : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = 0 ∧ win0_3.index t (1 : Fin 2) = t.val % 4 :=
  (by decide +kernel : ∀ t : Fin grid0.N, _)

/-- A point's activations are the rows of its row block. -/
theorem iblk_x (c : Dev nD) (t : Fin cfg0.N) (p : Fin 1024) (k : Fin 2048) (r : Fin 16384)
    (hr : r.val = t.val / 4 * 1024 + p.val) :
    (iblk m c 0 t : Vec Ideal S1024x2048 .f32) (ix2 p k) = V m c main_v0 (ix2 r k) := by
  obtain ⟨e0, e1, -⟩ := idx_in t
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- A point's codes are the columns of its column block. -/
theorem iblk_w (c : Dev nD) (t : Fin cfg0.N) (k q : Fin 2048) (o : Fin 8192) (ho : o.val = t.val % 4 * 2048 + q.val) :
    (iblk m c 1 t : Vec Ideal S2048x2048 .i8) (ix2 k q) = V m c main_arg1 (ix2 k o) := by
  obtain ⟨-, -, e0, e1, -⟩ := idx_in t
  show V m c main_arg1 (((cfg0.win 1).blk t).view.emb (ix2 k q)) = _
  refine congrArg (V m c main_arg1) (funext fun a => Fin.ext ?_)
  match a with
  | ⟨0, _⟩ => show win0_1.index t (0 : Fin 2) * 2048 + 1 * k.val = k.val; omega
  | ⟨1, _⟩ => show win0_1.index t (1 : Fin 2) * 2048 + 1 * q.val = o.val; omega

/-- A point's scales are those of its column block. -/
theorem iblk_s (c : Dev nD) (t : Fin cfg0.N) (q : Fin 2048) (o : Fin 8192) (ho : o.val = t.val % 4 * 2048 + q.val) :
    (iblk m c 2 t : Vec Ideal S1x2048 .f32) (ix2 (0 : Fin 1) q) = V m c main_v1 (ix2 (0 : Fin 1) o) := by
  obtain ⟨-, -, -, -, e0, e1, -⟩ := idx_in t
  show V m c main_v1 (((cfg0.win 2).blk t).view.emb (ix2 (0 : Fin 1) q)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 2048 + 1 * q.val = o.val; omega

/-- A point's biases are those of its column block. -/
theorem iblk_b (c : Dev nD) (t : Fin cfg0.N) (q : Fin 2048) (o : Fin 8192) (ho : o.val = t.val % 4 * 2048 + q.val) :
    (iblk m c 3 t : Vec Ideal S1x2048 .f32) (ix2 (0 : Fin 1) q) = V m c main_v2 (ix2 (0 : Fin 1) o) := by
  obtain ⟨-, -, -, -, -, -, e0, e1⟩ := idx_in t
  show V m c main_v2 (((cfg0.win 3).blk t).view.emb (ix2 (0 : Fin 1) q)) = _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 2048 + 1 * q.val = o.val; omega

/-- Two points of one row block read the same activations. -/
theorem iblk_x_eq (c : Dev nD) (t t' : Fin cfg0.N) (h : t.val / 4 = t'.val / 4) :
    (iblk m c 0 t : Vec Ideal S1024x2048 .f32) = iblk m c 0 t' := by
  have hN : t.val < 64 := lt_of_lt_of_eq t.isLt N_0
  funext y
  have hy : (y 0).val < 1024 := (y 0).isLt
  have e := iblk_x m c t (y 0) (y 1) ⟨t.val / 4 * 1024 + (y 0).val, by omega⟩ rfl
  have e' := iblk_x m c t' (y 0) (y 1) ⟨t.val / 4 * 1024 + (y 0).val, by omega⟩ (congrArg (fun n => n * 1024 + (y 0).val) h)
  rw [eq_ix2 y]
  exact e.trans e'.symm

/-! ## What a point leaves -/

/-- A pair's first component, from an equation of the pair. -/
theorem fst_of_eq {α β : Type} {p : α × β} {a : α} {b : β} (h : p = (a, b)) : p.1 = a := h ▸ rfl

/-- A pair's second component, from an equation of the pair. -/
theorem snd_of_eq {α β : Type} {p : α × β} {a : α} {b : β} (h : p = (a, b)) : p.2 = b := h ▸ rfl

/-- A point at the first column block leaves its own activations in the scratch. -/
theorem scratch_at_A (c : Dev nD) (t : Fin cfg0.N) (h0 : t.val % 4 = 0) :
    (outsAt0 m c t.val t.isLt).2 = (iblk m c 0 t : Vec Ideal S1024x2048 .f32) :=
  (snd_of_eq (outsAt0_A m c t h0)).trans (scratch_A c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) ((hcond0_0 t).mpr h0))

/-- Any other point leaves the scratch as the point before left it. -/
theorem scratch_at_B (c : Dev nD) (t : Fin cfg0.N) (h0 : ¬t.val % 4 = 0) :
    (outsAt0 m c t.val t.isLt).2 = (outsAt0 m c (t.val - 1) (Nat.lt_of_le_of_lt (Nat.sub_le _ _) t.isLt)).2 :=
  snd_of_eq (outsAt0_B m c t h0)

/-- A point at the first column block leaves the block computed from its own activations. -/
theorem out_at_A (c : Dev nD) (t : Fin cfg0.N) (h0 : t.val % 4 = 0) :
    (outsAt0 m c t.val t.isLt).1 = blockFn (iblk m c 0 t) (iblk m c 1 t) (iblk m c 2 t) (iblk m c 3 t) :=
  (fst_of_eq (outsAt0_A m c t h0)).trans (out_A c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) ((hcond0_0 t).mpr h0))

/-- Any other point leaves the block computed from what the scratch held. -/
theorem out_at_B (c : Dev nD) (t : Fin cfg0.N) (h0 : ¬t.val % 4 = 0) :
    (outsAt0 m c t.val t.isLt).1
      = blockFn (outsAt0 m c (t.val - 1) (Nat.lt_of_le_of_lt (Nat.sub_le _ _) t.isLt)).2
          (iblk m c 1 t) (iblk m c 2 t) (iblk m c 3 t) :=
  (fst_of_eq (outsAt0_B m c t h0)).trans (out_B c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) (fun h => h0 ((hcond0_0 t).mp h))
    (outsAt0 m c (t.val - 1) (Nat.lt_of_le_of_lt (Nat.sub_le _ _) t.isLt)).2)

/-- After point `n` the scratch holds the point's activations: by induction on the point. -/
theorem scratch_eq (c : Dev nD) : ∀ (n : ℕ) (hn : n < cfg0.N),
    (outsAt0 m c n hn).2 = (iblk m c 0 ⟨n, hn⟩ : Vec Ideal S1024x2048 .f32)
  | 0, hn => scratch_at_A m c ⟨0, hn⟩ (Nat.zero_mod 4)
  | n + 1, hn =>
    if h0 : (n + 1) % 4 = 0 then scratch_at_A m c ⟨n + 1, hn⟩ h0
    else ((scratch_at_B m c ⟨n + 1, hn⟩ h0).trans (scratch_eq c n (Nat.lt_of_succ_lt hn))).trans
      (iblk_x_eq m c ⟨n, Nat.lt_of_succ_lt hn⟩ ⟨n + 1, hn⟩ (show n / 4 = (n + 1) / 4 by omega))

/-- After point `t` the result's staging buffer holds the block computed from the point's own inputs. -/
theorem outs_eq (c : Dev nD) (t : Fin cfg0.N) :
    (outsAt0 m c t.val t.isLt).1 = blockFn (iblk m c 0 t) (iblk m c 1 t) (iblk m c 2 t) (iblk m c 3 t) := by
  by_cases h0 : t.val % 4 = 0
  · exact out_at_A m c t h0
  · refine (out_at_B m c t h0).trans (congrArg (fun x => blockFn x (iblk m c 1 t) (iblk m c 2 t) (iblk m c 3 t)) ?_)
    exact (scratch_eq m c (t.val - 1) (Nat.lt_of_le_of_lt (Nat.sub_le _ _) t.isLt)).trans
      (iblk_x_eq m c ⟨t.val - 1, Nat.lt_of_le_of_lt (Nat.sub_le _ _) t.isLt⟩ t (show (t.val - 1) / 4 = t.val / 4 by omega))

/-! ## The arrays the region finds -/

/-- The flattened activations at row `r` are the activations at the row's batch and position. -/
theorem V_x (c : Dev nD) (r : Fin 16384) (k : Fin 2048) :
    V m c main_v0 (ix2 r k) = m ((c : Thread nD τ).loc main_arg0) (ix3 (batchOf r) (seqOf r) k) := by
  have e : V m c main_v0 = shapeCast S16384x2048 (m ((c : Thread nD τ).loc main_arg0)) shapeCasts_S4x4096x2048_S16384x2048 := by
    show StableHlo.after hostOps0 (fun b => m (c, b)) _ = _
    after_results <;> rfl
  rw [e]
  refine shapeCast_apply _ shapeCasts_S4x4096x2048_S16384x2048 (ix2 r k) (ix3 (batchOf r) (seqOf r) k) ?_
  rw [Shape.rowMajor_val_three, Shape.rowMajor_val_two]
  show (r.val / 4096 * 4096 + r.val % 4096) * 2048 + k.val = r.val * 2048 + k.val
  omega

/-- The scales as a row. -/
theorem V_s (c : Dev nD) (o : Fin 8192) :
    V m c main_v1 (ix2 (0 : Fin 1) o) = m ((c : Thread nD τ).loc main_arg2) (ix1 o) := by
  have e : V m c main_v1 = shapeCast S1x8192 (m ((c : Thread nD τ).loc main_arg2)) shapeCasts_S8192_S1x8192 := by
    show StableHlo.after hostOps0 (fun b => m (c, b)) _ = _
    after_results <;> rfl
  rw [e]
  refine shapeCast_apply _ shapeCasts_S8192_S1x8192 (ix2 (0 : Fin 1) o) (ix1 o) ?_
  rw [Shape.rowMajor_val_one, Shape.rowMajor_val_two]
  show o.val = 0 * 8192 + o.val
  omega

/-- The biases as a row. -/
theorem V_b (c : Dev nD) (o : Fin 8192) :
    V m c main_v2 (ix2 (0 : Fin 1) o) = m ((c : Thread nD τ).loc main_arg3) (ix1 o) := by
  have e : V m c main_v2 = shapeCast S1x8192 (m ((c : Thread nD τ).loc main_arg3)) shapeCasts_S8192_S1x8192 := by
    show StableHlo.after hostOps0 (fun b => m (c, b)) _ = _
    after_results <;> rfl
  rw [e]
  refine shapeCast_apply _ shapeCasts_S8192_S1x8192 (ix2 (0 : Fin 1) o) (ix1 o) ?_
  rw [Shape.rowMajor_val_one, Shape.rowMajor_val_two]
  show o.val = 0 * 8192 + o.val
  omega

/-! ## The result's array -/

/-- Every element of the kernel's result is the linear layer's, over the arguments. -/
theorem array_eq (c : Dev nD) :
    G4 m c = linear (m ((c : Thread nD τ).loc main_arg0)) (m ((c : Thread nD τ).loc main_arg1))
      (m ((c : Thread nD τ).loc main_arg2)) (m ((c : Thread nD τ).loc main_arg3)) := by
  funext i
  have hi0 : (i 0).val < 16384 := (i 0).isLt
  have hi1 : (i 1).val < 8192 := (i 1).isLt
  have hp : pt4Of i < cfg0.N := lt_of_lt_of_eq (by show 4 * ((i 0).val / 1024 - 0) + 1 * ((i 1).val / 2048 - 0) < 64; omega) N_0.symm
  have hd : pt4Of i / 4 = (i 0).val / 1024 := by
    show (4 * ((i 0).val / 1024 - 0) + 1 * ((i 1).val / 2048 - 0)) / 4 = _; omega
  have hm : pt4Of i % 4 = (i 1).val / 2048 := by
    show (4 * ((i 0).val / 1024 - 0) + 1 * ((i 1).val / 2048 - 0)) % 4 = _; omega
  unfold G4
  rw [dif_pos hp, ← outsAt0_sweep m c (pt4Of i) hp]
  refine (congrFun (outs_eq m c ⟨pt4Of i, hp⟩) (loc4Of i)).trans ?_
  have hr : (i 0).val = pt4Of i / 4 * 1024 + (i 0).val % 1024 := by rw [hd]; omega
  have ho : (i 1).val = pt4Of i % 4 * 2048 + (i 1).val % 2048 := by rw [hm]; omega
  unfold blockFn linear
  congr 1
  · funext k
    exact (iblk_x m c ⟨pt4Of i, hp⟩ (loc4Of i 0) k (i 0) hr).trans (V_x m c (i 0) k)
  · funext k
    exact (iblk_w m c ⟨pt4Of i, hp⟩ k (loc4Of i 1) (i 1) ho).trans (congrFun (V_main_arg1 m c) _)
  · exact (iblk_s m c ⟨pt4Of i, hp⟩ (loc4Of i 1) (i 1) ho).trans (V_s m c (i 1))
  · exact (iblk_b m c ⟨pt4Of i, hp⟩ (loc4Of i 1) (i 1) ho).trans (V_b m c (i 1))

end Cert.KernelIdeal.Array

end
-- ==== Proof.RefValue.lean ====
/-
  What the reference computes, at the exact instance: the same linear layer over the same arguments.

  The reference widens each code to a 32-bit integer before it converts it; widening keeps the signed value (`code_ext`).
  Its result is the [4, 4096, 8192] sum with the bias, flattened to [16384, 8192] (`value_eq`).
-/
module

public import proofs.«01_k».proof.Proof.Spec
public import proofs.«01_k».proof.Proof.Gen.ReferenceIdeal.Read

@[expose] public section

noncomputable section

namespace Cert.ReferenceIdeal.RefValue

open Idealize.ShloMosaic Idealize.ShloMosaic.ValueIdx
open Cert.ReferenceIdeal Cert.ReferenceIdeal.Read Cert.Spec
open scoped BigOperators

/-- Widening a code to 32 bits keeps its signed value. -/
theorem code_ext (b : BitVec 8) : (((b.signExtend 32).toInt : ℝ) : EReal) = code b := by
  rw [BitVec.toInt_signExtend_of_le (by decide)]

/-- A scaled code of the reference: the code times its column's scale. -/
theorem weight_eq (x1 : (⟨S2048x8192, .i8⟩ : BufTy).Contents (Elt Ideal)) (x2 : (⟨S8192, .f32⟩ : BufTy).Contents (Elt Ideal))
    (k : Fin 2048) (o : Fin 8192) :
    val_main_v6 (F := Ideal) x1 x2 (ix2 k o) = code (x1 (ix2 k o)) * (x2 (ix1 o) : EReal) := by
  rw [val_main_v6_apply, val_main_v5_apply, val_main_v4_apply, val_main_v3_apply, val_main_v2_apply, val_main_v1_apply,
    val_main_v0_apply]
  refine congrArg₂ (· * ·) (code_ext _) ?_
  refine congrArg x2 (funext fun a => ?_)
  match a with
  | ⟨0, _⟩ => rfl

/-- Every element of the reference's result is the linear layer's. -/
theorem value_eq (x0 : (⟨S4x4096x2048, .f32⟩ : BufTy).Contents (Elt Ideal)) (x1 : (⟨S2048x8192, .i8⟩ : BufTy).Contents (Elt Ideal))
    (x2 x3 : (⟨S8192, .f32⟩ : BufTy).Contents (Elt Ideal)) :
    val_main_v12 (F := Ideal) x0 x1 x2 x3 = linear x0 x1 x2 x3 := by
  funext i
  have h0 : (i 0).val < 16384 := (i 0).isLt
  have h1 : (i 1).val < 8192 := (i 1).isLt
  rw [val_main_v12_apply, val_main_v11_apply, val_main_v8_apply, val_main_v10_apply, val_main_v9_apply]
  unfold linear entry
  refine congrArg₂ (· + ·) (Finset.sum_congr rfl fun k _ => ?_) ?_
  · have el : lidx_main_v8 (idx_main_v12 i) k = ix3 (batchOf (i 0)) (seqOf (i 0)) k := funext fun a => Fin.ext (by
      match a with
      | ⟨0, _⟩ => show ((i 0).val * 8192 + (i 1).val) / 33554432 = (i 0).val / 4096; omega
      | ⟨1, _⟩ => show ((i 0).val * 8192 + (i 1).val) / 8192 % 4096 = (i 0).val % 4096; omega
      | ⟨2, _⟩ => rfl)
    have er : ridx_main_v8 (idx_main_v12 i) k = ix2 k (i 1) := funext fun a => Fin.ext (by
      match a with
      | ⟨0, _⟩ => rfl
      | ⟨1, _⟩ => show ((i 0).val * 8192 + (i 1).val) % 8192 = (i 1).val; omega)
    rw [el, er, val_main_v7_apply]
    exact congrArg (_ * ·) (weight_eq x1 x2 k (i 1))
  · refine congrArg x3 (funext fun a => Fin.ext ?_)
    match a with
    | ⟨0, _⟩ => show ((i 0).val * 8192 + (i 1).val) % 8192 = (i 1).val; omega

end Cert.ReferenceIdeal.RefValue

end
-- ==== Proof.lean ====
/-
  The certificate: the kernel and the reference both run and leave their arguments unchanged, and at the exact instance
  (floats are extended reals) they end with the same result, element by element. The mathematics is in the modules
  imported here: `Spec` (the formula), `Block` (what one grid point computes), `Array` (what the kernel's result holds) and
  `RefValue` (what the reference's result holds). This file puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Spec

/-- The reference runs, leaves its arguments as they were and every semaphore counter at zero: it has no semaphore. -/
theorem quiescent_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) _⟩) (Cert.ReferenceIdeal.Value.run m g)

/-- The kernel and the reference, from equal arguments, end with equal results: both are the linear layer of the arguments. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono
      (fun r h c => ⟨(h c).1.trans (Cert.KernelIdeal.Array.array_eq m c), (h c).2⟩) (Cert.KernelIdeal.Value.run m g),
    (θ_run Cert.ReferenceIdeal.defs _ _).mono
      (fun r h c => ⟨((h c).1.trans (Cert.ReferenceIdeal.Read.val_main_v12_eq _ _ _ _)).trans
        ((Cert.ReferenceIdeal.RefValue.value_eq _ _ _ _).trans (by
          rw [(hagree c).1, (hagree c).2.1, (hagree c).2.2.1, (hagree c).2.2.2])), (h c).2⟩)
      (Cert.ReferenceIdeal.Value.run m' g')⟩

/-- Everything claimed: the three frames, the printed idealization, and the equation of the two results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_reference, trivial, algebraic⟩

end Cert.Proof

end
